-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x1x14848 : Shape := ⟨3, ![128, 1, 14848]⟩
abbrev S7424x8192 : Shape := ⟨2, ![7424, 8192]⟩
abbrev S464x8192 : Shape := ⟨2, ![464, 8192]⟩
abbrev S128x14848 : Shape := ⟨2, ![128, 14848]⟩
abbrev S128x8192 : Shape := ⟨2, ![128, 8192]⟩
abbrev S7424x512 : Shape := ⟨2, ![7424, 512]⟩
abbrev S464x512 : Shape := ⟨2, ![464, 512]⟩
abbrev S128x512 : Shape := ⟨2, ![128, 512]⟩
abbrev S256x512 : Shape := ⟨2, ![256, 512]⟩
abbrev S1x512 : Shape := ⟨2, ![1, 512]⟩
abbrev S16x512 : Shape := ⟨2, ![16, 512]⟩
abbrev S128x256 : Shape := ⟨2, ![128, 256]⟩

abbrev nBuf : Space → Nat
  | .hbm => 5
  | .vmem => 8
  | .smem => 0
  | _ => 0

abbrev bufTy : (tb : Table) → Fin (tcTables nBuf tb) → BufTy
  | .hbm, ⟨0, _⟩ => ⟨S128x1x14848, .bf16⟩
  | .hbm, ⟨1, _⟩ => ⟨S7424x8192, .i8⟩
  | .hbm, ⟨2, _⟩ => ⟨S464x8192, .i8⟩
  | .hbm, ⟨3, _⟩ => ⟨S128x14848, .bf16⟩
  | .hbm, ⟨4, _⟩ => ⟨S128x8192, .bf16⟩
  | .local _ .vmem, ⟨0, _⟩ => ⟨S128x14848, .bf16⟩
  | .local _ .vmem, ⟨1, _⟩ => ⟨S7424x512, .i8⟩
  | .local _ .vmem, ⟨2, _⟩ => ⟨S7424x512, .i8⟩
  | .local _ .vmem, ⟨3, _⟩ => ⟨S464x512, .i8⟩
  | .local _ .vmem, ⟨4, _⟩ => ⟨S464x512, .i8⟩
  | .local _ .vmem, ⟨5, _⟩ => ⟨S128x512, .bf16⟩
  | .local _ .vmem, ⟨6, _⟩ => ⟨S128x512, .bf16⟩
  | .local _ .vmem, ⟨7, _⟩ => ⟨S464x512, .i32⟩
  | _, _ => ⟨S128x1x14848, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x14848 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S7424x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S464x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S128x1x14848 : Shape := ⟨3, ![128, 1, 14848]⟩
abbrev S7424x8192 : Shape := ⟨2, ![7424, 8192]⟩
abbrev S464x8192 : Shape := ⟨2, ![464, 8192]⟩
abbrev S_ : Shape := ⟨0, ![]⟩
abbrev S464x16x8192 : Shape := ⟨3, ![464, 16, 8192]⟩
abbrev S464x1x8192 : Shape := ⟨3, ![464, 1, 8192]⟩
abbrev S128x14848 : Shape := ⟨2, ![128, 14848]⟩
abbrev S128x7424 : Shape := ⟨2, ![128, 7424]⟩
abbrev S128x8192 : Shape := ⟨2, ![128, 8192]⟩

abbrev nBuf : Space → Nat
  | .hbm => 116
  | .vmem => 0
  | .smem => 0
  | _ => 0

abbrev bufTy : (tb : Table) → Fin (tcTables nBuf tb) → BufTy
  | .hbm, ⟨0, _⟩ => ⟨S128x1x14848, .bf16⟩
  | .hbm, ⟨1, _⟩ => ⟨S7424x8192, .i8⟩
  | .hbm, ⟨2, _⟩ => ⟨S464x8192, .i8⟩
  | .hbm, ⟨3, _⟩ => ⟨S464x8192, .i32⟩
  | .hbm, ⟨4, _⟩ => ⟨S_, .i32⟩
  | .hbm, ⟨5, _⟩ => ⟨S464x8192, .i32⟩
  | .hbm, ⟨6, _⟩ => ⟨S464x8192, .i32⟩
  | .hbm, ⟨7, _⟩ => ⟨S_, .f32⟩
  | .hbm, ⟨8, _⟩ => ⟨S464x8192, .f32⟩
  | .hbm, ⟨9, _⟩ => ⟨S464x8192, .f32⟩
  | .hbm, ⟨10, _⟩ => ⟨S464x8192, .f32⟩
  | .hbm, ⟨11, _⟩ => ⟨S_, .i32⟩
  | .hbm, ⟨12, _⟩ => ⟨S464x8192, .i32⟩
  | .hbm, ⟨13, _⟩ => ⟨S464x8192, .i1⟩
  | .hbm, ⟨14, _⟩ => ⟨S_, .f32⟩
  | .hbm, ⟨15, _⟩ => ⟨S464x8192, .f32⟩
  | .hbm, ⟨16, _⟩ => ⟨S464x8192, .f32⟩
  | .hbm, ⟨17, _⟩ => ⟨S464x8192, .bf16⟩
  | .hbm, ⟨18, _⟩ => ⟨S464x16x8192, .i8⟩
  | .hbm, ⟨19, _⟩ => ⟨S464x16x8192, .i32⟩
  | .hbm, ⟨20, _⟩ => ⟨S464x1x8192, .bf16⟩
  | .hbm, ⟨21, _⟩ => ⟨S_, .i32⟩
  | .hbm, ⟨22, _⟩ => ⟨S464x16x8192, .i32⟩
  | .hbm, ⟨23, _⟩ => ⟨S464x16x8192, .i32⟩
  | .hbm, ⟨24, _⟩ => ⟨S_, .i32⟩
  | .hbm, ⟨25, _⟩ => ⟨S464x16x8192, .i32⟩
  | .hbm, ⟨26, _⟩ => ⟨S464x16x8192, .i32⟩
  | .hbm, ⟨27, _⟩ => ⟨S_, .i32⟩
  | .hbm, ⟨28, _⟩ => ⟨S464x16x8192, .i32⟩
  | .hbm, ⟨29, _⟩ => ⟨S464x16x8192, .i32⟩
  | .hbm, ⟨30, _⟩ => ⟨S_, .i32⟩
  | .hbm, ⟨31, _⟩ => ⟨S464x16x8192, .i32⟩
  | .hbm, ⟨32, _⟩ => ⟨S464x16x8192, .i32⟩
  | .hbm, ⟨33, _⟩ => ⟨S_, .i32⟩
  | .hbm, ⟨34, _⟩ => ⟨S464x16x8192, .i32⟩
  | .hbm, ⟨35, _⟩ => ⟨S464x16x8192, .i32⟩
  | .hbm, ⟨36, _⟩ => ⟨S_, .i32⟩
  | .hbm, ⟨37, _⟩ => ⟨S464x16x8192, .i32⟩
  | .hbm, ⟨38, _⟩ => ⟨S464x16x8192, .i32⟩
  | .hbm, ⟨39, _⟩ => ⟨S_, .i32⟩
  | .hbm, ⟨40, _⟩ => ⟨S464x16x8192, .i32⟩
  | .hbm, ⟨41, _⟩ => ⟨S464x16x8192, .i1⟩
  | .hbm, ⟨42, _⟩ => ⟨S_, .i32⟩
  | .hbm, ⟨43, _⟩ => ⟨S464x16x8192, .i32⟩
  | .hbm, ⟨44, _⟩ => ⟨S464x16x8192, .i32⟩
  | .hbm, ⟨45, _⟩ => ⟨S_, .i32⟩
  | .hbm, ⟨46, _⟩ => ⟨S464x16x8192, .i32⟩
  | .hbm, ⟨47, _⟩ => ⟨S464x16x8192, .i32⟩
  | .hbm, ⟨48, _⟩ => ⟨S_, .i32⟩
  | .hbm, ⟨49, _⟩ => ⟨S464x16x8192, .i32⟩
  | .hbm, ⟨50, _⟩ => ⟨S464x16x8192, .i32⟩
  | .hbm, ⟨51, _⟩ => ⟨S_, .i32⟩
  | .hbm, ⟨52, _⟩ => ⟨S464x16x8192, .i32⟩
  | .hbm, ⟨53, _⟩ => ⟨S464x16x8192, .i32⟩
  | .hbm, ⟨54, _⟩ => ⟨S464x16x8192, .i32⟩
  | .hbm, ⟨55, _⟩ => ⟨S464x16x8192, .i32⟩
  | .hbm, ⟨56, _⟩ => ⟨S_, .i32⟩
  | .hbm, ⟨57, _⟩ => ⟨S464x16x8192, .i32⟩
  | .hbm, ⟨58, _⟩ => ⟨S464x16x8192, .i32⟩
  | .hbm, ⟨59, _⟩ => ⟨S464x16x8192, .i32⟩
  | .hbm, ⟨60, _⟩ => ⟨S464x16x8192, .i16⟩
  | .hbm, ⟨61, _⟩ => ⟨S464x16x8192, .bf16⟩
  | .hbm, ⟨62, _⟩ => ⟨S464x16x8192, .bf16⟩
  | .hbm, ⟨63, _⟩ => ⟨S464x16x8192, .bf16⟩
  | .hbm, ⟨64, _⟩ => ⟨S7424x8192, .bf16⟩
  | .hbm, ⟨65, _⟩ => ⟨S_, .i32⟩
  | .hbm, ⟨66, _⟩ => ⟨S464x16x8192, .i32⟩
  | .hbm, ⟨67, _⟩ => ⟨S464x16x8192, .i32⟩
  | .hbm, ⟨68, _⟩ => ⟨S_, .i32⟩
  | .hbm, ⟨69, _⟩ => ⟨S464x16x8192, .i32⟩
  | .hbm, ⟨70, _⟩ => ⟨S464x16x8192, .i32⟩
  | .hbm, ⟨71, _⟩ => ⟨S_, .i32⟩
  | .hbm, ⟨72, _⟩ => ⟨S464x16x8192, .i32⟩
  | .hbm, ⟨73, _⟩ => ⟨S464x16x8192, .i32⟩
  | .hbm, ⟨74, _⟩ => ⟨S_, .i32⟩
  | .hbm, ⟨75, _⟩ => ⟨S464x16x8192, .i32⟩
  | .hbm, ⟨76, _⟩ => ⟨S464x16x8192, .i32⟩
  | .hbm, ⟨77, _⟩ => ⟨S_, .i32⟩
  | .hbm, ⟨78, _⟩ => ⟨S464x16x8192, .i32⟩
  | .hbm, ⟨79, _⟩ => ⟨S464x16x8192, .i32⟩
  | .hbm, ⟨80, _⟩ => ⟨S_, .i32⟩
  | .hbm, ⟨81, _⟩ => ⟨S464x16x8192, .i32⟩
  | .hbm, ⟨82, _⟩ => ⟨S464x16x8192, .i32⟩
  | .hbm, ⟨83, _⟩ => ⟨S_, .i32⟩
  | .hbm, ⟨84, _⟩ => ⟨S464x16x8192, .i32⟩
  | .hbm, ⟨85, _⟩ => ⟨S464x16x8192, .i1⟩
  | .hbm, ⟨86, _⟩ => ⟨S_, .i32⟩
  | .hbm, ⟨87, _⟩ => ⟨S464x16x8192, .i32⟩
  | .hbm, ⟨88, _⟩ => ⟨S464x16x8192, .i32⟩
  | .hbm, ⟨89, _⟩ => ⟨S_, .i32⟩
  | .hbm, ⟨90, _⟩ => ⟨S464x16x8192, .i32⟩
  | .hbm, ⟨91, _⟩ => ⟨S464x16x8192, .i32⟩
  | .hbm, ⟨92, _⟩ => ⟨S_, .i32⟩
  | .hbm, ⟨93, _⟩ => ⟨S464x16x8192, .i32⟩
  | .hbm, ⟨94, _⟩ => ⟨S464x16x8192, .i32⟩
  | .hbm, ⟨95, _⟩ => ⟨S_, .i32⟩
  | .hbm, ⟨96, _⟩ => ⟨S464x16x8192, .i32⟩
  | .hbm, ⟨97, _⟩ => ⟨S464x16x8192, .i32⟩
  | .hbm, ⟨98, _⟩ => ⟨S464x16x8192, .i32⟩
  | .hbm, ⟨99, _⟩ => ⟨S464x16x8192, .i32⟩
  | .hbm, ⟨100, _⟩ => ⟨S_, .i32⟩
  | .hbm, ⟨101, _⟩ => ⟨S464x16x8192, .i32⟩
  | .hbm, ⟨102, _⟩ => ⟨S464x16x8192, .i32⟩
  | .hbm, ⟨103, _⟩ => ⟨S464x16x8192, .i32⟩
  | .hbm, ⟨104, _⟩ => ⟨S464x16x8192, .i16⟩
  | .hbm, ⟨105, _⟩ => ⟨S464x16x8192, .bf16⟩
  | .hbm, ⟨106, _⟩ => ⟨S464x16x8192, .bf16⟩
  | .hbm, ⟨107, _⟩ => ⟨S464x16x8192, .bf16⟩
  | .hbm, ⟨108, _⟩ => ⟨S7424x8192, .bf16⟩
  | .hbm, ⟨109, _⟩ => ⟨S128x14848, .bf16⟩
  | .hbm, ⟨110, _⟩ => ⟨S128x7424, .bf16⟩
  | .hbm, ⟨111, _⟩ => ⟨S128x7424, .bf16⟩
  | .hbm, ⟨112, _⟩ => ⟨S128x8192, .f32⟩
  | .hbm, ⟨113, _⟩ => ⟨S128x8192, .f32⟩
  | .hbm, ⟨114, _⟩ => ⟨S128x8192, .f32⟩
  | .hbm, ⟨115, _⟩ => ⟨S128x8192, .bf16⟩
  | _, _ => ⟨S128x1x14848, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_v16 : Ref sig .tc := ⟨.hbm, 26, rfl⟩
abbrev main_c_4 : Ref sig .tc := ⟨.hbm, 27, rfl⟩
abbrev main_v17 : Ref sig .tc := ⟨.hbm, 28, rfl⟩
abbrev main_v18 : Ref sig .tc := ⟨.hbm, 29, rfl⟩
abbrev main_c_5 : Ref sig .tc := ⟨.hbm, 30, rfl⟩
abbrev main_v19 : Ref sig .tc := ⟨.hbm, 31, rfl⟩
abbrev main_v20 : Ref sig .tc := ⟨.hbm, 32, rfl⟩
abbrev main_c_6 : Ref sig .tc := ⟨.hbm, 33, rfl⟩
abbrev main_v21 : Ref sig .tc := ⟨.hbm, 34, rfl⟩
abbrev main_v22 : Ref sig .tc := ⟨.hbm, 35, rfl⟩
abbrev main_c_7 : Ref sig .tc := ⟨.hbm, 36, rfl⟩
abbrev main_v23 : Ref sig .tc := ⟨.hbm, 37, rfl⟩
abbrev main_v24 : Ref sig .tc := ⟨.hbm, 38, rfl⟩
abbrev main_c_8 : Ref sig .tc := ⟨.hbm, 39, rfl⟩
abbrev main_v25 : Ref sig .tc := ⟨.hbm, 40, rfl⟩
abbrev main_v26 : Ref sig .tc := ⟨.hbm, 41, rfl⟩
abbrev main_c_9 : Ref sig .tc := ⟨.hbm, 42, rfl⟩
abbrev main_v27 : Ref sig .tc := ⟨.hbm, 43, rfl⟩
abbrev main_v28 : Ref sig .tc := ⟨.hbm, 44, rfl⟩
abbrev main_c_10 : Ref sig .tc := ⟨.hbm, 45, rfl⟩
abbrev main_v29 : Ref sig .tc := ⟨.hbm, 46, rfl⟩
abbrev main_v30 : Ref sig .tc := ⟨.hbm, 47, rfl⟩
abbrev main_c_11 : Ref sig .tc := ⟨.hbm, 48, rfl⟩
abbrev main_v31 : Ref sig .tc := ⟨.hbm, 49, rfl⟩
abbrev main_v32 : Ref sig .tc := ⟨.hbm, 50, rfl⟩
abbrev main_c_12 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_13 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_14 : Ref sig .tc := ⟨.hbm, 65, rfl⟩
abbrev main_v45 : Ref sig .tc := ⟨.hbm, 66, rfl⟩
abbrev main_v46 : Ref sig .tc := ⟨.hbm, 67, rfl⟩
abbrev main_c_15 : Ref sig .tc := ⟨.hbm, 68, rfl⟩
abbrev main_v47 : Ref sig .tc := ⟨.hbm, 69, rfl⟩
abbrev main_v48 : Ref sig .tc := ⟨.hbm, 70, rfl⟩
abbrev main_c_16 : Ref sig .tc := ⟨.hbm, 71, rfl⟩
abbrev main_v49 : Ref sig .tc := ⟨.hbm, 72, rfl⟩
abbrev main_v50 : Ref sig .tc := ⟨.hbm, 73, rfl⟩
abbrev main_c_17 : Ref sig .tc := ⟨.hbm, 74, rfl⟩
abbrev main_v51 : Ref sig .tc := ⟨.hbm, 75, rfl⟩
abbrev main_v52 : Ref sig .tc := ⟨.hbm, 76, rfl⟩
abbrev main_c_18 : Ref sig .tc := ⟨.hbm, 77, rfl⟩
abbrev main_v53 : Ref sig .tc := ⟨.hbm, 78, rfl⟩
abbrev main_v54 : Ref sig .tc := ⟨.hbm, 79, rfl⟩
abbrev main_c_19 : Ref sig .tc := ⟨.hbm, 80, rfl⟩
abbrev main_v55 : Ref sig .tc := ⟨.hbm, 81, rfl⟩
abbrev main_v56 : Ref sig .tc := ⟨.hbm, 82, rfl⟩
abbrev main_c_20 : Ref sig .tc := ⟨.hbm, 83, rfl⟩
abbrev main_v57 : Ref sig .tc := ⟨.hbm, 84, rfl⟩
abbrev main_v58 : Ref sig .tc := ⟨.hbm, 85, rfl⟩
abbrev main_c_21 : Ref sig .tc := ⟨.hbm, 86, rfl⟩
abbrev main_v59 : Ref sig .tc := ⟨.hbm, 87, rfl⟩
abbrev main_v60 : Ref sig .tc := ⟨.hbm, 88, rfl⟩
abbrev main_c_22 : Ref sig .tc := ⟨.hbm, 89, rfl⟩
abbrev main_v61 : Ref sig .tc := ⟨.hbm, 90, rfl⟩
abbrev main_v62 : Ref sig .tc := ⟨.hbm, 91, rfl⟩
abbrev main_c_23 : Ref sig .tc := ⟨.hbm, 92, rfl⟩
abbrev main_v63 : Ref sig .tc := ⟨.hbm, 93, rfl⟩
abbrev main_v64 : Ref sig .tc := ⟨.hbm, 94, rfl⟩
abbrev main_c_24 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_c_25 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩

abbrev nD : Nat := 1
abbrev τ : Topo := Topo.v7x

variable {F : FTy → Type} [FloatOps F]
-- ==== Proof.Tile.lean ====
/- What the kernel computes from one tile of 256 rows of the weight: the four-bit codes of a tile spelled as
   bfloat16 bit patterns, the scale words of a tile, one accumulation step, and the accumulator after the first `n` of
   the 58 tiles.  `out_eq` states that the block a grid point stores is the rounded accumulator after all 58 tiles. -/
module

public import proofs.«01_k».proof.Proof.Gen.KernelIdeal.Value
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Value
open Cert.KernelIdeal Cert.KernelIdeal.Gen

variable {F : FTy → Type} [FloatOps F]

/-- The bfloat16 bit pattern of each four-bit code, in the low half of a word: the magnitudes 0 and 1 are 0 and one
    half, a magnitude of 2 or more holds an exponent and one bit of mantissa; bit 3 is the sign. -/
def codeBits (v : IVec S128x512 32) : IVec S128x512 32 :=
  ori (select (cmpi .slt (andi v (broadcast S128x512 7#32)) (broadcast S128x512 2#32))
      (muli (andi v (broadcast S128x512 7#32)) (broadcast S128x512 16128#32))
      (addi (broadcast S128x512 16128#32) (shli (andi v (broadcast S128x512 7#32)) (broadcast S128x512 6#32))))
    (shli (andi v (broadcast S128x512 8#32)) (broadcast S128x512 12#32))

/-- One word per code byte: the pattern of its low four bits in the low half, of its high four bits in the high half. -/
def codeWords (c : Vec F S128x512 .i8) : IVec S128x512 32 :=
  ori (codeBits (andi (extui 32 c natLt_8_32) (broadcast S128x512 15#32)))
    (shli (codeBits (shrsi (extui 32 c natLt_8_32) (broadcast S128x512 4#32))) (broadcast S128x512 16#32))

/-- One row of scale words, repeated over the sixteen rows of code bytes that it scales. -/
def scaleRow (r : Vec F S1x512 .i32) : IVec S16x512 32 :=
  broadcastTo S16x512 (shapeCast S1x512 r shapeCasts_S1x512_S1x512) broadcasts_S1x512_S16x512

/-- The scale words of a tile: eight rows, each repeated sixteen times, one below the other. -/
def scaleWords (r : Fin 8 → Vec F S1x512 .i32) : IVec S128x512 32 :=
  concatenate S128x512 0 [⟨S16x512, scaleRow (r 0)⟩, ⟨S16x512, scaleRow (r 1)⟩, ⟨S16x512, scaleRow (r 2)⟩,
    ⟨S16x512, scaleRow (r 3)⟩, ⟨S16x512, scaleRow (r 4)⟩, ⟨S16x512, scaleRow (r 5)⟩, ⟨S16x512, scaleRow (r 6)⟩,
    ⟨S16x512, scaleRow (r 7)⟩] concatenates_S16x512_S16x512_S16x512_S16x512_S16x512_S16x512_S16x512_S16x512_S128x512_d0

/-- The scaled weight tile: every word read as two rows of bfloat16, codes times scales. -/
def weightTile (c : Vec F S128x512 .i8) (r : Fin 8 → Vec F S1x512 .i32) : FVec F S256x512 .bf16 :=
  mulf (bitcastToFloat .bf16 (bitcast S256x512 16 (codeWords c) bitcasts_S128x512_w32_S256x512_w16))
    (bitcastToFloat .bf16 (bitcast S256x512 16 (scaleWords r) bitcasts_S128x512_w32_S256x512_w16))

/-- One step of the accumulation: the accumulator plus the product of a tile of activations and a tile of weights. -/
def tile (acc : FVec F S128x512 .f32) (x : Vec F S128x256 .bf16) (c : Vec F S128x512 .i8) (r : Fin 8 → Vec F S1x512 .i32) :
    FVec F S128x512 .f32 :=
  addf acc (matmul dot_S128x256_S256x512_S128x512_1_0_0_1_n_n none
    (shapeCast S128x256 x shapeCasts_S128x256_S128x256) (weightTile c r) (constant S128x512 .f32 0x00000000#32))

/-- The columns `256 n … 256 n + 255` of the activations. -/
def xTile (X : Vec F S128x14848 .bf16) (n : ℕ) (h : n < 58) : Vec F S128x256 .bf16 :=
  View.ld X (Rect.unit ![0, 256 * n] ![128, 256] (by
    intro a; match a with | ⟨0, _⟩ => exact Nat.le_refl 128 | ⟨1, _⟩ => show 256 * n + 256 ≤ 14848; omega))

/-- The rows `128 n … 128 n + 127` of the code bytes. -/
def cTile (C : Vec F S7424x512 .i8) (n : ℕ) (h : n < 58) : Vec F S128x512 .i8 :=
  View.ld C (Rect.unit ![128 * n, 0] ![128, 512] (by
    intro a; match a with | ⟨0, _⟩ => show 128 * n + 128 ≤ 7424; omega | ⟨1, _⟩ => exact Nat.le_refl 512))

/-- The row `8 n + b` of the scale words. -/
def wRow (W : Vec F S464x512 .i32) (n : ℕ) (h : n < 58) (b : Fin 8) : Vec F S1x512 .i32 :=
  View.ld W (Rect.unit ![8 * n + b.val, 0] ![1, 512] (by
    intro a; match a with | ⟨0, _⟩ => show 8 * n + b.val + 1 ≤ 464; omega | ⟨1, _⟩ => exact Nat.le_refl 512))

/-- The accumulator after the first `n` tiles. -/
def chain (X : Vec F S128x14848 .bf16) (C : Vec F S7424x512 .i8) (W : Vec F S464x512 .i32) :
    (n : ℕ) → n ≤ 58 → FVec F S128x512 .f32
  | 0, _ => broadcast S128x512 (Scalar.ofBits .f32 0x00000000#32)
  | n + 1, h => tile (chain X C W n (Nat.le_of_succ_le h)) (xTile X n h) (cTile C n h) (wRow W n h)

variable (m : (ℓ : Loc nD τ sig) → Buf (Elt F) ℓ)

/-- A row of the scale words read after the whole buffer was filled with them is that row of them. -/
theorem scratch_read {κ : Kind} (v : View sig κ .vmem S464x512 .i32) (W : Vec F S464x512 .i32)
    (inb : ∀ a, (![0, 0] : Fin 2 → ℕ) a + (![464, 512] : Fin 2 → ℕ) a ≤ S464x512.size a)
    (off : Fin 2 → ℕ) (inb' : ∀ a, off a + (![1, 512] : Fin 2 → ℕ) a ≤ S464x512.size a) :
    v.readCov (Val := Elt F) [⟨Rect.unit ![0, 0] ![464, 512] inb, W⟩]
      (Rect.unit (s := S464x512) off ![1, 512] inb').toLoadRect = View.ld W (Rect.unit off ![1, 512] inb') :=
  View.readCov_fill v inb W [] _ (by decide)

set_option maxHeartbeats 400000 in
/-- The block a grid point leaves for the result: the accumulator after all 58 tiles, rounded to bfloat16. -/
theorem out_eq (c : Dev nD) (t : Fin cfg0.N) :
    outsAt0 (F := F) m c t = truncf .bf16 (chain (iblk m c 0 t) (iblk m c 1 t) (k0_pay2 (iblk m c 2 t)) 58 (Nat.le_refl 58))
      bitsLt_bf16_f32 := by
  unfold outsAt0
  generalize iblk m c 0 t = X
  generalize iblk m c 1 t = C
  generalize iblk m c 2 t = E
  frame_out
  simp only [scratch_read]
  generalize k0_pay2 E = W
  rfl

end Cert.KernelIdeal.Value
end
-- ==== Proof.Words.lean ====
/- The bit patterns and the numbers of the two formats: the word that the kernel forms of a code byte, the word that it
   forms of a scale code, the pattern that the reference forms of a four-bit code, and the number that a scale code
   stands for.  Nothing here mentions an array. -/
module

public import Idealize.ShloMosaic.Lib.Pointwise

@[expose] public section

noncomputable section

namespace Cert.Words
open Idealize.ShloMosaic

/-- The kernel's bfloat16 pattern of the code in the low four bits of a word. -/
abbrev nibble (v : BitVec 32) : BitVec 32 :=
  IntOp.ori
    (Scalar.select (IntOp.cmpi CmpIPredicate.slt (IntOp.andi v 7#32) 2#32) (IntOp.muli (IntOp.andi v 7#32) 16128#32)
      (IntOp.addi (16128#32) (IntOp.shli ArithUnit.vector (IntOp.andi v 7#32) 6#32)))
    (IntOp.shli ArithUnit.vector (IntOp.andi v 8#32) 12#32)

/-- The kernel's word of a code byte: the pattern of the low code in the low half, of the high code in the high half. -/
def codeWord (b : BitVec 8) : BitVec 32 :=
  IntOp.ori (nibble (IntOp.andi (BitVec.setWidth 32 b) 15#32))
    (IntOp.shli ArithUnit.vector (nibble (IntOp.shrsi ArithUnit.vector (BitVec.setWidth 32 b) 4#32)) 16#32)

/-- The kernel's word of a scale code: the same bfloat16 pattern in both halves. -/
def scaleWord (b : BitVec 8) : BitVec 32 :=
  IntOp.ori
    (Scalar.select (IntOp.cmpi CmpIPredicate.eq (BitVec.setWidth 32 b) 0#32) (64#32)
      (IntOp.shli ArithUnit.vector (BitVec.setWidth 32 b) 7#32))
    (IntOp.shli ArithUnit.vector
      (Scalar.select (IntOp.cmpi CmpIPredicate.eq (BitVec.setWidth 32 b) 0#32) (64#32)
        (IntOp.shli ArithUnit.vector (BitVec.setWidth 32 b) 7#32))
      16#32)

/-- The number of the code in the low (`q = 0`) or the high (`q = 1`) four bits of a code byte. -/
def codeVal (b : BitVec 8) (q : ℕ) : EReal := Ideal.ofBits FTy.bf16 ((codeWord b).extractLsb' (16 * q) 16)

/-- The number that a scale code stands for, as the reference writes it: two to the power of the code less 127, and
    infinity for the code 255. -/
def scaleVal (b : BitVec 8) : EReal :=
  Scalar.select (IntOp.cmpi CmpIPredicate.eq (IntOp.subi (BitVec.setWidth 32 b) 127#32) 128#32)
    (Ideal.ofBits FTy.f32 0x7F800000#32)
    (Ideal.pow (Ideal.ofBits FTy.f32 0x40000000#32) (((IntOp.subi (BitVec.setWidth 32 b) 127#32).toInt : ℝ) : EReal))

/-- Both halves of a scale word have sign 0, fraction 0 (64 for the code 0) and the code itself as exponent. -/
theorem scaleWord_fields : ∀ (b : BitVec 8) (q : Fin 2),
    ((scaleWord b).extractLsb' (16 * q.val) 16).extractLsb' 15 1 = 0#1
    ∧ (((scaleWord b).extractLsb' (16 * q.val) 16).extractLsb' 7 8).toNat = b.toNat
    ∧ (((scaleWord b).extractLsb' (16 * q.val) 16).extractLsb' 0 7).toNat = if b.toNat = 0 then 64 else 0 := by
  decide +kernel

/-- The exponent that the reference raises two to is the code less 127, and it is 128 exactly for the code 255. -/
theorem exponent_eq : ∀ b : BitVec 8, (IntOp.subi (BitVec.setWidth 32 b) 127#32).toInt = (b.toNat : ℤ) - 127
    ∧ IntOp.cmpi CmpIPredicate.eq (IntOp.subi (BitVec.setWidth 32 b) 127#32) 128#32 = if b.toNat = 255 then 1#1 else 0#1 := by
  decide +kernel

/-- The pattern of infinity. -/
theorem ofBits_inf : Ideal.ofBits FTy.f32 0x7F800000#32 = ⊤ := by
  have e : (0x7F800000#32 : BitVec 32).extractLsb' 23 8 = 255#8 := by decide
  have f : (0x7F800000#32 : BitVec 32).extractLsb' 0 23 = 0#23 := by decide
  have s : (0x7F800000#32 : BitVec 32).extractLsb' 31 1 = 0#1 := by decide
  simp [Ideal.ofBits, Ideal.ieee, e, f, s]

/-- The pattern of two. -/
theorem ofBits_two : Ideal.ofBits FTy.f32 0x40000000#32 = ((2 : ℝ) : EReal) := by
  have e : (0x40000000#32 : BitVec 32).extractLsb' 23 8 = 128#8 := by decide
  have f : (0x40000000#32 : BitVec 32).extractLsb' 0 23 = 0#23 := by decide
  have s : (0x40000000#32 : BitVec 32).extractLsb' 31 1 = 0#1 := by decide
  simp only [Ideal.ofBits, Ideal.ieee, e, f, s]
  norm_num

/-- Two to the power of the code less 127, for every code but 255, and infinity there. -/
theorem scaleVal_eq (b : BitVec 8) :
    scaleVal b = if b.toNat = 255 then ⊤ else (((2 : ℝ) ^ ((b.toNat : ℤ) - 127) : ℝ) : EReal) := by
  obtain ⟨he, hc⟩ := exponent_eq b
  unfold scaleVal
  rw [hc, he, ofBits_inf, ofBits_two]
  by_cases h : b.toNat = 255
  · simp [h, Scalar.select]
  · simp only [h, if_false, Scalar.select, Ideal.pow_coe_coe]
    simp only [Real.rpow_eq_pow, Real.rpow_intCast]
    rfl

/-- Either half of the kernel's word of a scale code, read as a bfloat16, is the number the code stands for. -/
theorem scaleWord_val (b : BitVec 8) (q : ℕ) (hq : q < 2) :
    Ideal.ofBits FTy.bf16 ((scaleWord b).extractLsb' (16 * q) 16) = scaleVal b := by
  obtain ⟨hs, he, hf⟩ := scaleWord_fields b ⟨q, hq⟩
  dsimp only at hs he hf
  rw [scaleVal_eq]
  have hb : b.toNat < 256 := b.isLt
  show Ideal.ieee 8 7 _ = _
  simp only [Ideal.ieee, he, hf, hs]
  by_cases h255 : b.toNat = 255
  · simp [h255]
  · by_cases h0 : b.toNat = 0
    · simp only [h0, if_true, if_false, BitVec.reduceBEq, beq_iff_eq]
      norm_num [← EReal.coe_mul]
    · simp [h255, h0]
      rw [show (b.toNat : ℤ) - 127 = 7 + ((b.toNat : ℤ) - 127 - 7) by ring, zpow_add₀ (by norm_num)]
      norm_num

/-- The reference's bfloat16 pattern of the code in the low four bits of a word. -/
def refPattern (v : BitVec 32) : BitVec 16 :=
  BitVec.setWidth 16
    (IntOp.ori
      (Scalar.select (IntOp.cmpi CmpIPredicate.eq (IntOp.andi (IntOp.shrui ArithUnit.host v 1#32) 3#32) 0#32)
        (IntOp.muli (IntOp.andi v 1#32) 16128#32)
        (IntOp.ori
          (IntOp.shli ArithUnit.host (IntOp.addi (IntOp.andi (IntOp.shrui ArithUnit.host v 1#32) 3#32) 126#32) 7#32)
          (IntOp.shli ArithUnit.host (IntOp.andi v 1#32) 6#32)))
      (IntOp.shli ArithUnit.host (IntOp.andi (IntOp.shrui ArithUnit.host v 3#32) 1#32) 15#32))

/-- For every code byte the reference's pattern of the low code is the low half of the kernel's word. -/
theorem refPattern_low : ∀ b : BitVec 8,
    refPattern (IntOp.andi (BitVec.setWidth 32 b) 15#32) = (codeWord b).extractLsb' (16 * 0) 16 := by
  decide +kernel

/-- For every code byte the reference's pattern of the high code is the high half of the kernel's word. -/
theorem refPattern_high : ∀ b : BitVec 8,
    refPattern (IntOp.shrui ArithUnit.host (BitVec.setWidth 32 b) 4#32) = (codeWord b).extractLsb' (16 * 1) 16 := by
  decide +kernel

end Cert.Words
end
-- ==== Proof.Sums.lean ====
/- The inner product that one element of the result is, as a sum over the 14848 rows of the weight, and the same sum
   taken over the even rows and over the odd rows. -/
module

public import proofs.«01_k».proof.Proof.Words

@[expose] public section

noncomputable section

namespace Cert.Words
open Idealize.ShloMosaic

/-- What row `k` of the weight contributes to an element of the result, from a row `x` of the activations, a column `c`
    of the code bytes and a column `e` of the scale codes: two rows share a byte, thirty-two share a scale. -/
def term (x : Fin 14848 → EReal) (c : Fin 7424 → BitVec 8) (e : Fin 464 → BitVec 8) (k : ℕ) : EReal :=
  if h : k < 14848 then
    x ⟨k, h⟩ * (codeVal (c ⟨k / 2, by omega⟩) (k % 2) * scaleVal (e ⟨k / 32, by omega⟩))
  else 0

/-- An element of the result: the sum of the contributions of all rows. -/
def inner (x : Fin 14848 → EReal) (c : Fin 7424 → BitVec 8) (e : Fin 464 → BitVec 8) : EReal :=
  ∑ k ∈ Finset.range 14848, term x c e k

/-- A sum over the first `2 n` numbers is the sum over the even ones plus the sum over the odd ones. -/
theorem sum_even_odd (f : ℕ → EReal) (n : ℕ) :
    ∑ k ∈ Finset.range (2 * n), f k = ∑ i ∈ Finset.range n, f (2 * i) + ∑ i ∈ Finset.range n, f (1 + 2 * i) := by
  induction n with
  | zero => simp
  | succ n ih =>
    rw [show 2 * (n + 1) = 2 * n + 1 + 1 by ring, Finset.sum_range_succ, Finset.sum_range_succ, ih,
      Finset.sum_range_succ _ n, Finset.sum_range_succ _ n, add_comm 1 (2 * n)]
    ac_rfl

/-- An element of the result, the even rows (the low codes) apart from the odd rows (the high codes). -/
theorem inner_eq (x : Fin 14848 → EReal) (c : Fin 7424 → BitVec 8) (e : Fin 464 → BitVec 8) :
    inner x c e =
      ∑ i : Fin 7424, x ⟨2 * i.val, by omega⟩ * (codeVal (c i) 0 * scaleVal (e ⟨i.val / 16, by omega⟩))
      + ∑ i : Fin 7424, x ⟨1 + 2 * i.val, by omega⟩ * (codeVal (c i) 1 * scaleVal (e ⟨i.val / 16, by omega⟩)) := by
  unfold inner
  refine (sum_even_odd (term x c e) 7424).trans ?_
  rw [Finset.sum_range, Finset.sum_range]
  refine congrArg₂ (· + ·) (Finset.sum_congr rfl fun i _ => ?_) (Finset.sum_congr rfl fun i _ => ?_)
  · have h : 2 * i.val < 14848 := by omega
    have h2 : (2 * i.val) / 2 = i.val := by omega
    have h3 : (2 * i.val) / 32 = i.val / 16 := by omega
    have h4 : (2 * i.val) % 2 = 0 := by omega
    simp only [term, dif_pos h, h2, h3, h4]
  · have h : 1 + 2 * i.val < 14848 := by omega
    have h2 : (1 + 2 * i.val) / 2 = i.val := by omega
    have h3 : (1 + 2 * i.val) / 32 = i.val / 16 := by omega
    have h4 : (1 + 2 * i.val) % 2 = 1 := by omega
    simp only [term, dif_pos h, h2, h3, h4]

end Cert.Words
end
-- ==== Proof.TileValue.lean ====
/- The value of the kernel's tiles over the extended reals: the accumulator after `n` tiles is the sum of what the first
   `256 n` rows of the weight contribute. -/
module

public import proofs.«01_k».proof.Proof.Tile
public import proofs.«01_k».proof.Proof.Sums
public import Idealize.ShloMosaic.Lib.BitcastPair

@[expose] public section

noncomputable section

open Idealize.ShloMosaic Idealize.ShloMosaic.TcCoe Idealize.SL.Sem

namespace Cert.KernelIdeal.Value
open Cert.KernelIdeal Cert.KernelIdeal.Gen Cert.Words

/-- A word of a tile of codes is the word of its byte. -/
theorem codeWords_at (c : Vec Ideal S128x512 .i8) (i : Fin 128) (j : Fin 512) :
    codeWords c (ix2 i j) = codeWord (c (ix2 i j)) := by
  pointwise [codeWords, codeBits]
  rfl

/-- A row of the scale words of a tile is one of the eight loaded rows, sixteen rows to each. -/
theorem scaleWords_at (r : Fin 8 → Vec Ideal S1x512 .i32) (i : Fin 128) (j : Fin 512) :
    scaleWords r (ix2 i j) = r ⟨i.val / 16, by omega⟩ (ix2 0 j) := by
  have hi : i.val / 16 < 8 := by omega
  pointwise [scaleWords, scaleRow]
  split_ifs <;> refine congrArg (fun b => r b (ix2 0 j)) (Fin.ext ?_) <;> simp <;> omega

/-- A word of the scales is the word of its scale code. -/
theorem scales_at (E : Vec Ideal S464x512 .i8) (i : Fin 464) (j : Fin 512) :
    k0_pay2 E (ix2 i j) = scaleWord (E (ix2 i j)) := by
  pointwise [k0_pay2]
  rfl

/-- Words read at sixteen bits: two rows to a word, the low half first. -/
theorem halves_at (x : IVec S128x512 32) (k : Fin 256) (j : Fin 512) :
    bitcast S256x512 16 x bitcasts_S128x512_w32_S256x512_w16 (ix2 k j)
      = (x (ix2 ⟨k.val / 2, by omega⟩ j)).extractLsb' (16 * (k.val % 2)) 16 := by
  rw [bitcast_32_16]
  have h : S256x512.row (ix2 k j) = k.val := rfl
  have e : ∀ hp, bitcasts_S128x512_w32_S256x512_w16.srcIdx (ix2 k j) (S256x512.row (ix2 k j) / 2) hp
      = ix2 (⟨k.val / 2, by omega⟩ : Fin 128) j := by
    intro hp; funext a; apply Fin.ext
    match a with
    | ⟨0, _⟩ => rfl
    | ⟨1, _⟩ => rfl
  rw [e, h]

/-- A loaded tile of activations, at an element. -/
theorem xTile_at (X : Vec Ideal S128x14848 .bf16) (n : ℕ) (h : n < 58) (p : Fin 128) (k : Fin 256) :
    xTile X n h (ix2 p k) = X (ix2 p ⟨256 * n + k.val, by omega⟩) := by
  pointwise [xTile]

/-- A loaded tile of code bytes, at an element. -/
theorem cTile_at (C : Vec Ideal S7424x512 .i8) (n : ℕ) (h : n < 58) (i : Fin 128) (j : Fin 512) :
    cTile C n h (ix2 i j) = C (ix2 ⟨128 * n + i.val, by omega⟩ j) := by
  pointwise [cTile]

/-- A loaded row of scale words, at an element. -/
theorem wRow_at (W : Vec Ideal S464x512 .i32) (n : ℕ) (h : n < 58) (b : Fin 8) (j : Fin 512) :
    wRow W n h b (ix2 0 j) = W (ix2 ⟨8 * n + b.val, by omega⟩ j) := by
  pointwise [wRow]

/-- One step of the accumulation adds the contributions of the 256 rows of its tile. -/
theorem tile_at (acc : FVec Ideal S128x512 .f32) (X : Vec Ideal S128x14848 .bf16) (C : Vec Ideal S7424x512 .i8)
    (E : Vec Ideal S464x512 .i8) (n : ℕ) (h : n < 58) (p : Fin 128) (j : Fin 512) :
    tile acc (xTile X n h) (cTile C n h) (wRow (F := Ideal) (k0_pay2 E) n h) (ix2 p j)
      = acc (ix2 p j) + ∑ k ∈ Finset.range 256,
          term (fun k => X (ix2 p k)) (fun i => C (ix2 i j)) (fun g => E (ix2 g j)) (256 * n + k) := by
  rw [Finset.sum_range]
  pointwise [tile, weightTile]
  refine congrArg₂ (· + ·) rfl (Finset.sum_congr rfl fun k _ => ?_)
  rw [halves_at, halves_at, codeWords_at, scaleWords_at, xTile_at, cTile_at, wRow_at, scales_at,
    scaleWord_val _ _ (Nat.mod_lt _ (by decide))]
  have hk : 256 * n + k.val < 14848 := by omega
  have h2 : (256 * n + k.val) / 2 = 128 * n + k.val / 2 := by omega
  have h3 : (256 * n + k.val) / 32 = 8 * n + k.val / 2 / 16 := by omega
  have h4 : (256 * n + k.val) % 2 = k.val % 2 := by omega
  simp only [term, dif_pos hk, h2, h3, h4]
  rfl

/-- The accumulator after `n` tiles: the contributions of the first `256 n` rows. -/
theorem chain_at (X : Vec Ideal S128x14848 .bf16) (C : Vec Ideal S7424x512 .i8) (E : Vec Ideal S464x512 .i8)
    (p : Fin 128) (j : Fin 512) : ∀ (n : ℕ) (h : n ≤ 58),
    chain X C (k0_pay2 E) n h (ix2 p j)
      = ∑ k ∈ Finset.range (256 * n), term (fun k => X (ix2 p k)) (fun i => C (ix2 i j)) (fun g => E (ix2 g j)) k
  | 0, _ => by
    show Ideal.ofBits FTy.f32 0#32 = _
    rw [Ideal.ofBits_zero_f32]; simp
  | n + 1, h => by
    show tile (chain X C (k0_pay2 E) n _) (xTile X n h) (cTile C n h) (wRow (F := Ideal) (k0_pay2 E) n h) (ix2 p j) = _
    rw [tile_at, chain_at X C E p j n, Nat.mul_succ, Finset.sum_range_add]

/-- An element of the block that a grid point leaves: the inner product over all rows of the weight. -/
theorem chain_full (X : Vec Ideal S128x14848 .bf16) (C : Vec Ideal S7424x512 .i8) (E : Vec Ideal S464x512 .i8)
    (p : Fin 128) (j : Fin 512) :
    chain X C (k0_pay2 E) 58 (Nat.le_refl 58) (ix2 p j)
      = inner (fun k => X (ix2 p k)) (fun i => C (ix2 i j)) (fun g => E (ix2 g j)) :=
  chain_at X C E p j 58 _

end Cert.KernelIdeal.Value
end
-- ==== Proof.KernelValue.lean ====
/- What the kernel's result array holds after the run: every element is the inner product of a row of the activations
   and a column of the weight. -/
module

public import proofs.«01_k».proof.Proof.TileValue

@[expose] public section

set_option maxRecDepth 16384

noncomputable section

open Idealize.ShloMosaic Idealize.ShloMosaic.TcCoe Idealize.SL.Sem
open Idealize.ShloMosaic.Pipeline (Dat)

namespace Cert.KernelIdeal.Value
open Cert.KernelIdeal Cert.KernelIdeal.Gen Cert.Words

variable (m : (ℓ : Loc nD τ sig) → Buf (Elt Ideal) ℓ)

/-- The result as a function of the three arguments, element by element. -/
def product (x : Vec Ideal S128x1x14848 .bf16) (C : Vec Ideal S7424x8192 .i8) (E : Vec Ideal S464x8192 .i8) :
    FVec Ideal S128x8192 .bf16 :=
  fun j => inner (fun k => x (ix3 (j 0) 0 k)) (fun i => C (ix2 i (j 1))) (fun g => E (ix2 g (j 1)))

/-- Which block each grid point works on: all of the activations, and the `t`-th 512 columns of every other array. -/
theorem idx : ∀ t : Fin cfg0.N, win0_0.index t = ![0, 0] ∧ win0_1.index t = ![0, t.val]
    ∧ win0_2.index t = ![0, t.val] ∧ win0_3.index t = ![0, t.val] :=
  (by decide +kernel : ∀ t : Fin grid0.N, _)

/-- An element of the block that grid point `t` leaves is the element of the result at the block's place. -/
theorem point (c : Dev nD) (t : Fin cfg0.N) (y : S128x512.Idx) :
    truncf .bf16 (chain (iblk m c 0 t) (iblk m c 1 t) (k0_pay2 (iblk m c 2 t)) 58 (Nat.le_refl 58)) bitsLt_bf16_f32 y
      = product (m ((c.tc : Thread nD τ).loc main_arg0)) (m ((c.tc : Thread nD τ).loc main_arg1))
          (m ((c.tc : Thread nD τ).loc main_arg2)) ((win0_3.blk t).view.emb y) := by
  idx_vars y
  refine (chain_full (iblk m c 0 t) (iblk m c 1 t) (iblk m c 2 t) y0 y1).trans ?_
  unfold product
  refine congr (congrArg₂ inner (funext fun k => ?_) (funext fun i => ?_)) (funext fun g => ?_)
  · blk_point [iblk, V, idx t]
  · blk_point [iblk, V, idx t]
  · blk_point [iblk, V, idx t]

/-- The result array after the run is that function of the arguments. -/
theorem final (c : Dev nD) : (dats m 0 c).arrAt 3 (cfgs 0).N
    = product (m ((c.tc : Thread nD τ).loc main_arg0)) (m ((c.tc : Thread nD τ).loc main_arg1))
        (m ((c.tc : Thread nD τ).loc main_arg2)) := by
  refine (dats m 0 c).arrAt_eq_of_covers 3 _ (by decide +kernel) fun t _ y => ?_
  blk_simp
  rw [after0_3, out_eq]
  exact point m c t y

/-- The kernel runs, ends with that function of the arguments as its result, and leaves the arguments unchanged. -/
theorem run_product (ρ : Dev nD → PrngReg) : θ_run defs (onTc (τ := τ) (main (F := Ideal))) ⟨m, fun _ => 0, ρ⟩ fun r => ∀ c : Dev nD,
      r.2.mem ((c.tc : Thread nD τ).loc main_v1) = product (m ((c.tc : Thread nD τ).loc main_arg0))
        (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final m c), (h c).2⟩) (run_blocks m ρ)

end Cert.KernelIdeal.Value
end
-- ==== Proof.Reference.lean ====
/- What the reference computes: its result as a function of the three arguments, and an element of that result as an
   inner product over the rows of the weight. -/
module

public import proofs.«01_k».proof.Proof.Gen.ReferenceIdeal.Run
public import proofs.«01_k».proof.Proof.Sums
public import Idealize.ShloMosaic.Lib.Pointwise

@[expose] public section

noncomputable section

open Idealize.ShloMosaic Idealize.ShloMosaic.TcCoe Idealize.SL.Sem

namespace Cert.ReferenceIdeal.Value
open Cert.ReferenceIdeal Cert.ReferenceIdeal.Gen Cert.Words

variable {F : FTy → Type} [FloatOps F]

/-- A word repeated over the array of code bytes. -/
abbrev every (b : BitVec 32) : IVec S464x16x8192 32 :=
  broadcastInDim S464x16x8192 ![] bcast_S_S464x16x8192 (constantI S_ 32 b)

/-- The reference's decoding of an array of four-bit codes, as bfloat16 values. -/
def decode (v : IVec S464x16x8192 32) : FVec F S464x16x8192 .bf16 :=
  bitcastToFloat (F := F) .bf16 (trunci 16 (ori (select (cmpi .eq (andi (Host.shrui v (every 1#32)) (every 3#32)) (every 0#32))
    (muli (andi v (every 1#32)) (every 16128#32))
    (ori (Host.shli (addi (andi (Host.shrui v (every 1#32)) (every 3#32)) (every 126#32)) (every 7#32))
      (Host.shli (andi v (every 1#32)) (every 6#32))))
    (Host.shli (andi (Host.shrui v (every 3#32)) (every 1#32)) (every 15#32))) natLt_16_32)

/-- The code bytes as words, grouped by the scale that they share. -/
def bytes (C : Vec F S7424x8192 .i8) : IVec S464x16x8192 32 :=
  extui 32 (shapeCast S464x16x8192 C shapeCasts_S7424x8192_S464x16x8192) natLt_8_32

/-- The scales: two to the power of the code less 127, infinity where that is 128. -/
def scales (E : Vec F S464x8192 .i8) : FVec F S464x8192 .bf16 :=
  truncf .bf16 (select (cmpi .eq (subi (extui 32 E natLt_8_32) (broadcastInDim S464x8192 ![] bcast_S_S464x8192 (constantI S_ 32 127#32)))
      (broadcastInDim S464x8192 ![] bcast_S_S464x8192 (constantI S_ 32 128#32)))
    (broadcastInDim S464x8192 ![] bcast_S_S464x8192 (constant S_ .f32 0x7F800000#32))
    (Host.powf (broadcastInDim S464x8192 ![] bcast_S_S464x8192 (constant S_ .f32 0x40000000#32))
      (sitofp .f32 (subi (extui 32 E natLt_8_32) (broadcastInDim S464x8192 ![] bcast_S_S464x8192 (constantI S_ 32 127#32))))))
    bitsLt_bf16_f32

/-- Half of the weight: decoded codes times their scales, one row per row of code bytes. -/
def weight (v : IVec S464x16x8192 32) (E : Vec F S464x8192 .i8) : FVec F S7424x8192 .bf16 :=
  shapeCast S7424x8192 (mulf (decode v) (broadcastInDim S464x16x8192 ![0, 1, 2] bcast_S464x1x8192_S464x16x8192_0_1_2
    (broadcastInDim S464x1x8192 ![0, 2] bcast_S464x8192_S464x1x8192_0_2 (scales E)))) shapeCasts_S464x16x8192_S7424x8192

/-- The reference's result as a function of its three arguments. -/
def result (x : Vec F S128x1x14848 .bf16) (C : Vec F S7424x8192 .i8) (E : Vec F S464x8192 .i8) : FVec F S128x8192 .bf16 :=
  truncf .bf16 (addf
    (Host.dotGeneral dot_S128x7424_S7424x8192_S128x8192_1_0_0_1_n_n none
      (Host.slice S128x7424 ![0, 0] ![1, 2] (shapeCast S128x14848 x shapeCasts_S128x1x14848_S128x14848) slicesBy_S128x14848_S128x7424_0s1_0s2)
      (weight (andi (bytes C) (every 15#32)) E))
    (Host.dotGeneral dot_S128x7424_S7424x8192_S128x8192_1_0_0_1_n_n none
      (Host.slice S128x7424 ![0, 1] ![1, 2] (shapeCast S128x14848 x shapeCasts_S128x1x14848_S128x14848) slicesBy_S128x14848_S128x7424_0s1_1s2)
      (weight (Host.shrui (bytes C) (every 4#32)) E))) bitsLt_bf16_f32

variable (m : (ℓ : Loc nD τ sig) → Buf (Elt F) ℓ)

/-- What the reference's run leaves is that function of the arguments. -/
theorem res_eq (c : Dev nD) : res_out0 m c = result (m ((c.tc : Thread nD τ).loc main_arg0))
    (m ((c.tc : Thread nD τ).loc main_arg1)) (m ((c.tc : Thread nD τ).loc main_arg2)) := rfl

/-- The reference runs, ends with that function of the arguments as its result, and leaves the arguments unchanged. -/
theorem run_result (ρ : Dev nD → PrngReg) : θ_run defs (onTc (τ := τ) (main (F := F))) ⟨m, fun _ => 0, ρ⟩ fun r => ∀ c : Dev nD,
      r.2.mem ((c.tc : Thread nD τ).loc main_v83) = result (m ((c.tc : Thread nD τ).loc main_arg0))
        (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (res_eq m c), (h c).2⟩) (run m ρ)

/-- A decoded code is the value of the reference's pattern of it. -/
theorem decode_at (v : IVec S464x16x8192 32) (a : Fin 464) (b : Fin 16) (j : Fin 8192) :
    decode (F := Ideal) v (ix3 a b j) = Ideal.ofBits FTy.bf16 (refPattern (v (ix3 a b j))) := by
  pointwise [decode]
  rfl

/-- A scale is the number that its code stands for. -/
theorem scales_at (E : Vec Ideal S464x8192 .i8) (a : Fin 464) (j : Fin 8192) :
    scales E (ix2 a j) = scaleVal (E (ix2 a j)) := by
  pointwise [scales]
  rfl

/-- A word of the grouped code bytes is the byte of its row. -/
theorem bytes_at (C : Vec Ideal S7424x8192 .i8) (a : Fin 464) (b : Fin 16) (j : Fin 8192) :
    bytes C (ix3 a b j) = BitVec.setWidth 32 (C (ix2 ⟨a.val * 16 + b.val, by omega⟩ j)) := by
  pointwise [bytes]

/-- A row of half of the weight: its decoded code times the scale that sixteen rows share. -/
theorem weight_at (v : IVec S464x16x8192 32) (E : Vec Ideal S464x8192 .i8) (i : Fin 7424) (j : Fin 8192) :
    weight v E (ix2 i j) = Ideal.ofBits FTy.bf16 (refPattern (v (ix3 ⟨i.val / 16, by omega⟩ ⟨i.val % 16, by omega⟩ j)))
      * scaleVal (E (ix2 ⟨i.val / 16, by omega⟩ j)) := by
  pointwise [weight]
  rw [decode_at, scales_at]

/-- The weight of the low codes. -/
theorem weight_low (C : Vec Ideal S7424x8192 .i8) (E : Vec Ideal S464x8192 .i8) (i : Fin 7424) (j : Fin 8192) :
    weight (F := Ideal) (andi (bytes C) (every 15#32)) E (ix2 i j)
      = codeVal (C (ix2 i j)) 0 * scaleVal (E (ix2 ⟨i.val / 16, by omega⟩ j)) := by
  rw [weight_at]
  pointwise
  rw [bytes_at, refPattern_low]
  simp only [Nat.div_add_mod']
  rfl

/-- The weight of the high codes. -/
theorem weight_high (C : Vec Ideal S7424x8192 .i8) (E : Vec Ideal S464x8192 .i8) (i : Fin 7424) (j : Fin 8192) :
    weight (F := Ideal) (Host.shrui (bytes C) (every 4#32)) E (ix2 i j)
      = codeVal (C (ix2 i j)) 1 * scaleVal (E (ix2 ⟨i.val / 16, by omega⟩ j)) := by
  rw [weight_at]
  pointwise
  rw [bytes_at, refPattern_high]
  simp only [Nat.div_add_mod']
  rfl

/-- An element of the reference's result: the inner product of a row of the activations and a column of the weight. -/
theorem result_at (x : Vec Ideal S128x1x14848 .bf16) (C : Vec Ideal S7424x8192 .i8) (E : Vec Ideal S464x8192 .i8)
    (p : Fin 128) (j : Fin 8192) :
    result x C E (ix2 p j)
      = inner (fun k => x (ix3 p 0 k)) (fun i => C (ix2 i j)) (fun g => E (ix2 g j)) := by
  rw [inner_eq]
  pointwise [result]
  simp only [weight_low, weight_high]

end Cert.ReferenceIdeal.Value
end
-- ==== Proof.Equation.lean ====
/- The equation: over the extended reals, from equal arguments, the kernel and the reference end with equal results.
   Also that the reference runs and leaves its arguments unchanged. -/
module

public import proofs.«01_k».proof.Defs
public import proofs.«01_k».proof.Proof.KernelValue
public import proofs.«01_k».proof.Proof.Reference
public import Idealize.ShloMosaic.Lib.Quiescent

@[expose] public section

set_option maxRecDepth 16384

noncomputable section

namespace Cert.Proof

open Idealize.ShloMosaic Idealize.ShloMosaic.TcCoe Idealize.SL.Sem

/-- The reference's result and the kernel's are one function of the three arguments. -/
theorem result_eq_product (x : Vec Ideal Cert.ReferenceIdeal.S128x1x14848 .bf16) (C : Vec Ideal Cert.ReferenceIdeal.S7424x8192 .i8)
    (E : Vec Ideal Cert.ReferenceIdeal.S464x8192 .i8) :
    Cert.ReferenceIdeal.Value.result (F := Ideal) x C E = Cert.KernelIdeal.Value.product x C E := by
  funext j
  rw [eq_ix2 j]
  exact Cert.ReferenceIdeal.Value.result_at x C E (j 0) (j 1)

/-- Both programs run, end with equal results, and leave their arguments unchanged. -/
theorem algebraic : Cert.algebraic_KernelIdeal_ReferenceIdeal := by
  intro m g m' g' _ hagree
  refine ⟨_, Cert.KernelIdeal.Value.run_product m g, ?_⟩
  refine (θ_run Cert.ReferenceIdeal.defs _ _).mono (fun _ h c => ⟨(h c).1.trans ?_, (h c).2⟩)
    (Cert.ReferenceIdeal.Value.run_result (F := Ideal) m' g')
  rw [(hagree c).1, (hagree c).2.1, (hagree c).2.2]
  exact result_eq_product _ _ _

/-- The reference runs, leaves its arguments unchanged, and has no semaphore to leave nonzero. -/
theorem reference_frame : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run_result (F := Ideal) m g)

end Cert.Proof
end
-- ==== Proof.lean ====
/- The certificate: the kernel and its idealization run and leave their arguments unchanged with every semaphore at zero,
   so does the reference, the idealization is the kernel's own text, and over the extended reals the kernel's result is
   the reference's.

   Where the parts are: `Proof/Words.lean` the bit patterns and numbers of codes and scales; `Proof/Sums.lean` one element
   of the result as a sum; `Proof/Tile.lean` and `Proof/TileValue.lean` what one tile and then all tiles of a block
   compute; `Proof/KernelValue.lean` what the result array holds; `Proof/Reference.lean` what the reference computes;
   `Proof/Equation.lean` the equation. -/
module

public import proofs.«01_k».proof.Defs
public import proofs.«01_k».proof.Proof.Gen.Kernel.Frame
public import proofs.«01_k».proof.Proof.Gen.KernelIdeal.Frame
public import proofs.«01_k».proof.Proof.Equation

@[expose] public section

noncomputable section

namespace Cert.Proof

open Idealize.ShloMosaic Idealize.SL.Sem

/-- Everything the certificate claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_frame, trivial, algebraic⟩

end Cert.Proof

end
